-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_output_layer [hPre_finite_output_layer : Cert.Pre_finite_output_layer.Facts] (m : (ℓ : Loc Cert.KernelIdeal.nD Cert.KernelIdeal.τ Cert.KernelIdeal.sig) → Buf (Elt Ideal) ℓ) : Prop :=
  ∀ c : Dev Cert.KernelIdeal.nD,
    (Cert.Pre_finite_output_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_output_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_output_layer [hPre_finite_output_layer : Cert.Pre_finite_output_layer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_output_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_output_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_output_layer [hKernelIdeal : Cert.KernelIdeal.Facts] [hPre_finite_output_layer : Cert.Pre_finite_output_layer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_output_layer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_output_layer [hReferenceIdeal : Cert.ReferenceIdeal.Facts] [hPre_finite_output_layer : Cert.Pre_finite_output_layer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_output_layer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_output_layer [hKernelIdeal : Cert.KernelIdeal.Facts] [hReferenceIdeal : Cert.ReferenceIdeal.Facts] [hPre_finite_output_layer : Cert.Pre_finite_output_layer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_output_layer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_output_layer : Cert.Pre_finite_output_layer.Facts),
    quiescent_Kernel (hKernel := hKernel)
    ∧ quiescent_KernelIdeal (hKernelIdeal := hKernelIdeal)
    ∧ quiescent_KernelIdeal_pre_finite_output_layer (hKernelIdeal := hKernelIdeal) (hPre_finite_output_layer := hPre_finite_output_layer)
    ∧ quiescent_ReferenceIdeal (hReferenceIdeal := hReferenceIdeal)
    ∧ quiescent_ReferenceIdeal_pre_finite_output_layer (hReferenceIdeal := hReferenceIdeal) (hPre_finite_output_layer := hPre_finite_output_layer)
    ∧ preserves_Kernel_KernelIdeal
    ∧ algebraic_KernelIdeal_ReferenceIdeal_pre_finite_output_layer (hKernelIdeal := hKernelIdeal) (hReferenceIdeal := hReferenceIdeal) (hPre_finite_output_layer := hPre_finite_output_layer)
-- ==== Pre_finite_output_layer.lean ====
abbrev S100000x128 : Shape := ⟨2, ![100000, 128]⟩
abbrev S100000 : Shape := ⟨1, ![100000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1x64 : S_.BroadcastsInDim S1x64 (![] : Fin 0 → Fin S1x64.rank)
  bcast_S_S1 : S_.BroadcastsInDim S1 (![] : Fin 0 → Fin S1.rank)

variable [Facts]

def fn {F : FTy → Type} [FloatOps F] (main_arg0 : FVec F S100000x128 .f32) (main_arg1 : IVec S100000 32) (main_arg2 : FVec F S64x128 .f32) (main_arg3 : FVec F S64 .f32) (main_arg4 : FVec F S1x64 .f32) (main_arg5 : FVec F S1 .f32) : IVec S1x64 1 × IVec S1 1 :=
  let main_v0 : FVec F S1x64 .f32 := Host.absf main_arg4
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1 .f32 := Host.absf main_arg5
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  (main_v2, main_v5)
-- ==== Kernel.lean ====
abbrev S100000x128 : Shape := ⟨2, ![100000, 128]⟩
abbrev S100000 : Shape := ⟨1, ![100000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S5x1x20000 : Shape := ⟨3, ![5, 1, 20000]⟩
abbrev S64x1 : Shape := ⟨2, ![64, 1]⟩
abbrev S64x5000 : Shape := ⟨2, ![64, 5000]⟩
abbrev S128x5000 : Shape := ⟨2, ![128, 5000]⟩
abbrev S20000x128 : Shape := ⟨2, ![20000, 128]⟩
abbrev S1x1x20000 : Shape := ⟨3, ![1, 1, 20000]⟩
abbrev S8x64 : Shape := ⟨2, ![8, 64]⟩
abbrev S8x5000 : Shape := ⟨2, ![8, 5000]⟩
abbrev S5000x128 : Shape := ⟨2, ![5000, 128]⟩
abbrev S1x1x5000 : Shape := ⟨3, ![1, 1, 5000]⟩
abbrev S1x5000 : Shape := ⟨2, ![1, 5000]⟩
abbrev S64x8 : Shape := ⟨2, ![64, 8]⟩
abbrev S8x128 : Shape := ⟨2, ![8, 128]⟩

abbrev nBuf : Space → Nat
  | .hbm => 15
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S5x1x20000, .i32⟩
  | .hbm, ⟨7, _⟩ => ⟨S64, .f32⟩
  | .hbm, ⟨8, _⟩ => ⟨S64x1, .f32⟩
  | .hbm, ⟨9, _⟩ => ⟨S64x5000, .f32⟩
  | .hbm, ⟨10, _⟩ => ⟨S64x1, .f32⟩
  | .hbm, ⟨11, _⟩ => ⟨S64x5000, .f32⟩
  | .hbm, ⟨12, _⟩ => ⟨S128x5000, .f32⟩
  | .hbm, ⟨13, _⟩ => ⟨S128x5000, .bf16⟩
  | .hbm, ⟨14, _⟩ => ⟨S64x128, .f32⟩
  | .local _ .vmem, ⟨0, _⟩ => ⟨S20000x128, .f32⟩
  | .local _ .vmem, ⟨1, _⟩ => ⟨S20000x128, .f32⟩
  | .local _ .vmem, ⟨2, _⟩ => ⟨S1x1x20000, .i32⟩
  | .local _ .vmem, ⟨3, _⟩ => ⟨S1x1x20000, .i32⟩
  | .local _ .vmem, ⟨4, _⟩ => ⟨S64x128, .f32⟩
  | .local _ .vmem, ⟨5, _⟩ => ⟨S1x64, .f32⟩
  | .local _ .vmem, ⟨6, _⟩ => ⟨S128x5000, .bf16⟩
  | .local _ .vmem, ⟨7, _⟩ => ⟨S64x128, .f32⟩
  | .local _ .vmem, ⟨8, _⟩ => ⟨S64x128, .f32⟩
  | .local _ .vmem, ⟨9, _⟩ => ⟨S8x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v118 : BitVec 1 := Scalar.cmpi .eq arg0 c4_i32
  let v119 : BitVec 32 := Scalar.extui v118
  let c0_i32_54 : BitVec 32 := 0#32
  let v120 : BitVec 1 := Scalar.cmpi .ne v119 c0_i32_54
  v120

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x20000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x5000 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x128 : Shape := ⟨2, ![100000, 128]⟩
abbrev S100000 : Shape := ⟨1, ![100000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x64 : Shape := ⟨2, ![128, 64]⟩
abbrev S100000x64 : Shape := ⟨2, ![100000, 64]⟩
abbrev S64x1 : Shape := ⟨2, ![64, 1]⟩
abbrev S100000x1 : Shape := ⟨2, ![100000, 1]⟩
abbrev S1x1 : Shape := ⟨2, ![1, 1]⟩
abbrev S1x100000 : Shape := ⟨2, ![1, 100000]⟩
abbrev S64x100000 : Shape := ⟨2, ![64, 100000]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S128x64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S100000x64, .f32⟩
  | .hbm, ⟨12, _⟩ => ⟨S64x1, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000, .f32⟩
  | .hbm, ⟨18, _⟩ => ⟨S1x100000, .i32⟩
  | .hbm, ⟨19, _⟩ => ⟨S64, .i32⟩
  | .hbm, ⟨20, _⟩ => ⟨S64x1, .i32⟩
  | .hbm, ⟨21, _⟩ => ⟨S64x100000, .i32⟩
  | .hbm, ⟨22, _⟩ => ⟨S64x100000, .i32⟩
  | .hbm, ⟨23, _⟩ => ⟨S64x100000, .i1⟩
  | .hbm, ⟨24, _⟩ => ⟨S1x100000, .f32⟩
  | .hbm, ⟨25, _⟩ => ⟨S_, .f32⟩
  | .hbm, ⟨26, _⟩ => ⟨S_, .f32⟩
  | .hbm, ⟨27, _⟩ => ⟨S64x100000, .f32⟩
  | .hbm, ⟨28, _⟩ => ⟨S64x100000, .f32⟩
  | .hbm, ⟨29, _⟩ => ⟨S64x100000, .f32⟩
  | .hbm, ⟨30, _⟩ => ⟨S_, .f32⟩
  | .hbm, ⟨31, _⟩ => ⟨S64, .f32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S64, .f32⟩
  | .hbm, ⟨45, _⟩ => ⟨S100000x1, .i32⟩
  | .hbm, ⟨46, _⟩ => ⟨S64, .f32⟩
  | .hbm, ⟨47, _⟩ => ⟨S_, .i32⟩
  | .hbm, ⟨48, _⟩ => ⟨S100000, .i32⟩
  | .hbm, ⟨49, _⟩ => ⟨S100000, .i1⟩
  | .hbm, ⟨50, _⟩ => ⟨S_, .i32⟩
  | .hbm, ⟨51, _⟩ => ⟨S100000, .i32⟩
  | .hbm, ⟨52, _⟩ => ⟨S100000, .i32⟩
  | .hbm, ⟨53, _⟩ => ⟨S100000, .i32⟩
  | .hbm, ⟨54, _⟩ => ⟨S100000x1, .i32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S64x128, .f32⟩
  | .hbm, ⟨62, _⟩ => ⟨S100000x1, .i32⟩
  | .hbm, ⟨63, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.Chunk.lean ====
/-
  What one chunk of 5000 nodes contributes. The kernel body handles a block of 20000 nodes as four chunks by the same
  pure operations; here each of those operations is read at an index over the extended reals, and the four chunks'
  payloads are shown to be one function of the chunk's node features and batch numbers.
-/
module

public import proofs.«01_k».proof.Proof.Gen.KernelIdeal.Skeleton
public import Idealize.ShloMosaic.Lib.Pointwise

@[expose] public section

set_option maxRecDepth 16384

noncomputable section

namespace Cert.KernelIdeal.Chunk

open Idealize.ShloMosaic Cert.KernelIdeal Cert.KernelIdeal.Gen

/-- The weight a chunk gives its node `r` in graph `g`: the exponential of the node's attention score where the node's
    batch number is the graph's number, zero elsewhere. -/
theorem weight_apply (ids bias : FVec Ideal S64x5000 .bf16) (w1 : FVec Ideal S64x128 .bf16) (w2 : FVec Ideal S8x64 .bf16)
    (x : Vec Ideal S5000x128 .f32) (b : Vec Ideal S1x1x5000 .i32) (g : Fin 64) (r : Fin 5000) :
    k0_pay15 (F := Ideal) ids bias w1 w2 x b (ix2 g r)
      = if ids (ix2 g r) = FloatOps.sitofp (F := Ideal) .bf16 (b (ix3 0 0 r)) then
          Ideal.exp (∑ k : Fin 64, w2 (ix2 0 k) * Ideal.tanh (∑ d : Fin 128, w1 (ix2 k d) * x (ix2 r d) + bias (ix2 k r)))
        else 0 := by
  pointwise [k0_pay15, k0_pay14]

/-- A chunk's part of the weighted feature sums. -/
theorem num_apply (ids bias : FVec Ideal S64x5000 .bf16) (w1 : FVec Ideal S64x128 .bf16) (w2 : FVec Ideal S8x64 .bf16)
    (x : Vec Ideal S5000x128 .f32) (b : Vec Ideal S1x1x5000 .i32) (g : Fin 64) (d : Fin 128) :
    k0_pay16 (F := Ideal) ids bias w1 w2 x b (ix2 g d)
      = ∑ r : Fin 5000, k0_pay15 (F := Ideal) ids bias w1 w2 x b (ix2 g r) * x (ix2 r d) := by
  pointwise [k0_pay16, k0_pay14]

/-- A chunk's part of the weight sums, the same in each of the eight rows. -/
theorem den_apply (ids bias : FVec Ideal S64x5000 .bf16) (w1 : FVec Ideal S64x128 .bf16) (w2 : FVec Ideal S8x64 .bf16)
    (x : Vec Ideal S5000x128 .f32) (b : Vec Ideal S1x1x5000 .i32) (p : Fin 8) (g : Fin 64) :
    k0_pay17 (F := Ideal) ids bias w1 w2 (k0_pay9 (F := Ideal)) x b (ix2 p g)
      = ∑ r : Fin 5000, k0_pay15 (F := Ideal) ids bias w1 w2 x b (ix2 g r) := by
  pointwise [k0_pay17, k0_pay9]

/-- The weighted feature sums after a block: what they were, and the four chunks' parts. -/
theorem step_num (v3 v5 : Vec Ideal S64x5000 .bf16) (v7 : Vec Ideal S64x128 .f32) (v9 : Vec Ideal S1x64 .f32)
    (x0 x1 x2 x3 : Vec Ideal S5000x128 .f32) (b0 b1 b2 b3 : Vec Ideal S1x1x5000 .i32) (acc : Vec Ideal S64x128 .f32)
    (i : S64x128.Idx) :
    k0_pay24 (F := Ideal) (k0_pay5 v3) (k0_pay6 v5) (k0_pay7 v7) (k0_pay8 v9) (k0_pay12 v3 v5 v7 v9 x0 b0)
        (k0_pay16 (k0_pay5 v3) (k0_pay6 v5) (k0_pay7 v7) (k0_pay8 v9) x1 b1)
        (k0_pay20 (k0_pay5 v3) (k0_pay6 v5) (k0_pay7 v7) (k0_pay8 v9) x2 b2) x3 b3 acc i
      = acc i + (k0_pay16 (k0_pay5 v3) (k0_pay6 v5) (k0_pay7 v7) (k0_pay8 v9) x0 b0 i
          + k0_pay16 (k0_pay5 v3) (k0_pay6 v5) (k0_pay7 v7) (k0_pay8 v9) x1 b1 i
          + k0_pay16 (k0_pay5 v3) (k0_pay6 v5) (k0_pay7 v7) (k0_pay8 v9) x2 b2 i
          + k0_pay16 (k0_pay5 v3) (k0_pay6 v5) (k0_pay7 v7) (k0_pay8 v9) x3 b3 i) := by
  have e : k0_pay24 (F := Ideal) (k0_pay5 v3) (k0_pay6 v5) (k0_pay7 v7) (k0_pay8 v9) (k0_pay12 v3 v5 v7 v9 x0 b0)
        (k0_pay16 (k0_pay5 v3) (k0_pay6 v5) (k0_pay7 v7) (k0_pay8 v9) x1 b1)
        (k0_pay20 (k0_pay5 v3) (k0_pay6 v5) (k0_pay7 v7) (k0_pay8 v9) x2 b2) x3 b3 acc
      = shapeCast S64x128 (addf acc (addf (addf (addf (addf (broadcast S64x128 (Scalar.ofBits .f32 0x00000000#32))
          (k0_pay16 (k0_pay5 v3) (k0_pay6 v5) (k0_pay7 v7) (k0_pay8 v9) x0 b0))
          (k0_pay16 (k0_pay5 v3) (k0_pay6 v5) (k0_pay7 v7) (k0_pay8 v9) x1 b1))
          (k0_pay16 (k0_pay5 v3) (k0_pay6 v5) (k0_pay7 v7) (k0_pay8 v9) x2 b2))
          (k0_pay16 (k0_pay5 v3) (k0_pay6 v5) (k0_pay7 v7) (k0_pay8 v9) x3 b3))) shapeCasts_S64x128_S64x128 := rfl
  rw [e]
  pointwise

/-- The weight sums after a block: what they were, and the four chunks' parts. -/
theorem step_den (v3 v5 : Vec Ideal S64x5000 .bf16) (v7 : Vec Ideal S64x128 .f32) (v9 : Vec Ideal S1x64 .f32)
    (x0 x1 x2 x3 : Vec Ideal S5000x128 .f32) (b0 b1 b2 b3 : Vec Ideal S1x1x5000 .i32) (acc : Vec Ideal S8x64 .f32)
    (i : S8x64.Idx) :
    k0_pay1 (F := Ideal) (k0_pay25 (k0_pay5 v3) (k0_pay6 v5) (k0_pay7 v7) (k0_pay8 v9) k0_pay9 (k0_pay13 v3 v5 v7 v9 x0 b0)
        (k0_pay17 (k0_pay5 v3) (k0_pay6 v5) (k0_pay7 v7) (k0_pay8 v9) k0_pay9 x1 b1)
        (k0_pay21 (k0_pay5 v3) (k0_pay6 v5) (k0_pay7 v7) (k0_pay8 v9) k0_pay9 x2 b2) x3 b3 acc) i
      = acc i + (k0_pay17 (k0_pay5 v3) (k0_pay6 v5) (k0_pay7 v7) (k0_pay8 v9) k0_pay9 x0 b0 i
          + k0_pay17 (k0_pay5 v3) (k0_pay6 v5) (k0_pay7 v7) (k0_pay8 v9) k0_pay9 x1 b1 i
          + k0_pay17 (k0_pay5 v3) (k0_pay6 v5) (k0_pay7 v7) (k0_pay8 v9) k0_pay9 x2 b2 i
          + k0_pay17 (k0_pay5 v3) (k0_pay6 v5) (k0_pay7 v7) (k0_pay8 v9) k0_pay9 x3 b3 i) := by
  have e : k0_pay1 (F := Ideal) (k0_pay25 (k0_pay5 v3) (k0_pay6 v5) (k0_pay7 v7) (k0_pay8 v9) k0_pay9 (k0_pay13 v3 v5 v7 v9 x0 b0)
        (k0_pay17 (k0_pay5 v3) (k0_pay6 v5) (k0_pay7 v7) (k0_pay8 v9) k0_pay9 x1 b1)
        (k0_pay21 (k0_pay5 v3) (k0_pay6 v5) (k0_pay7 v7) (k0_pay8 v9) k0_pay9 x2 b2) x3 b3 acc)
      = shapeCast S8x64 (addf acc (addf (addf (addf (addf (broadcast S8x64 (Scalar.ofBits .f32 0x00000000#32))
          (k0_pay17 (k0_pay5 v3) (k0_pay6 v5) (k0_pay7 v7) (k0_pay8 v9) k0_pay9 x0 b0))
          (k0_pay17 (k0_pay5 v3) (k0_pay6 v5) (k0_pay7 v7) (k0_pay8 v9) k0_pay9 x1 b1))
          (k0_pay17 (k0_pay5 v3) (k0_pay6 v5) (k0_pay7 v7) (k0_pay8 v9) k0_pay9 x2 b2))
          (k0_pay17 (k0_pay5 v3) (k0_pay6 v5) (k0_pay7 v7) (k0_pay8 v9) k0_pay9 x3 b3))) shapeCasts_S8x64_S8x64 := rfl
  rw [e]
  pointwise

/-- The last block's quotient: the eight copies of a graph's weight sum, an eighth of each added up, divide the graph's
    weighted feature sum; where that sum is zero the divisor is one. -/
theorem last_apply (den : Vec Ideal S8x64 .f32) (num : Vec Ideal S64x128 .f32) (g : Fin 64) (d : Fin 128) :
    k0_pay2 (F := Ideal) den num (ix2 g d)
      = Ideal.div (num (ix2 g d))
          (if ∑ p : Fin 8, den (ix2 p g) * Ideal.ofBits .f32 0x3E000000#32 = 0 then 1
           else ∑ p : Fin 8, den (ix2 p g) * Ideal.ofBits .f32 0x3E000000#32) := by
  pointwise [k0_pay2]

end Cert.KernelIdeal.Chunk

end
-- ==== Proof.Score.lean ====
/-
  The attention weights as mathematics over the extended reals, with no program in sight: a node's score, the weight it
  has in a graph, and the sums of a graph.
-/
module

public import Idealize.ShloMosaic.Lib.Pointwise

@[expose] public section

noncomputable section

namespace Cert.Pool

open Idealize.ShloMosaic

/-- The attention score of a node with features `x`: a layer of 64 hyperbolic tangents, then a weighted sum of them. -/
def score (w1 : Fin 64 → Fin 128 → EReal) (b1 w2 : Fin 64 → EReal) (x : Fin 128 → EReal) : EReal :=
  ∑ k : Fin 64, w2 k * Ideal.tanh (∑ d : Fin 128, w1 k d * x d + b1 k)

/-- The arguments of the computation, read as functions: node features, batch numbers, the two layers. -/
structure Args where
  /-- the node features -/
  h : Fin 100000 → Fin 128 → EReal
  /-- the number of the graph each node is in -/
  batch : Fin 100000 → BitVec 32
  /-- the first layer's weights -/
  w1 : Fin 64 → Fin 128 → EReal
  /-- the first layer's offsets -/
  b1 : Fin 64 → EReal
  /-- the second layer's weights -/
  w2 : Fin 64 → EReal

/-- The score of node `n`. -/
def Args.s (A : Args) (n : Fin 100000) : EReal := score A.w1 A.b1 A.w2 (A.h n)

/-- The unnormalised weight of node `n` in graph `g`: the exponential of its score if it is in the graph, else zero. -/
def Args.weight (A : Args) (g : Fin 64) (n : Fin 100000) : EReal :=
  if (A.batch n).toInt = (g.val : ℤ) then Ideal.exp (A.s n) else 0

/-- A graph's sum of weighted features, over all nodes. -/
def Args.num (A : Args) (g : Fin 64) (d : Fin 128) : EReal := ∑ n : Fin 100000, A.weight g n * A.h n d

/-- A graph's sum of weights, over all nodes. -/
def Args.den (A : Args) (g : Fin 64) : EReal := ∑ n : Fin 100000, A.weight g n

/-- A function of the nodes continued by zero to all natural numbers, so that blocks of nodes are stretches of naturals. -/
def ext (f : Fin 100000 → EReal) (n : ℕ) : EReal := if h : n < 100000 then f ⟨n, h⟩ else 0

/-- Over a node's number the continuation is the function. -/
theorem ext_of_lt (f : Fin 100000 → EReal) {n : ℕ} (h : n < 100000) : ext f n = f ⟨n, h⟩ := dif_pos h

/-- The first 100000 naturals' sum of the continuation is the sum over all nodes. -/
theorem sum_ext (f : Fin 100000 → EReal) : ∑ n ∈ Finset.range 100000, ext f n = ∑ n, f n := by
  rw [← Fin.sum_univ_eq_sum_range]
  exact Finset.sum_congr rfl fun n _ => ext_of_lt f n.isLt

/-- Four consecutive chunks of 5000 naturals added to the sum before them give the sum up to their end. -/
theorem four_chunks (f : ℕ → EReal) (t : ℕ) :
    ∑ n ∈ Finset.range (20000 * t), f n
        + (∑ r : Fin 5000, f (20000 * t + 0 + r) + ∑ r : Fin 5000, f (20000 * t + 5000 + r)
            + ∑ r : Fin 5000, f (20000 * t + 10000 + r) + ∑ r : Fin 5000, f (20000 * t + 15000 + r))
      = ∑ n ∈ Finset.range (20000 * (t + 1)), f n := by
  have chunk : ∀ o : ℕ, ∑ r : Fin 5000, f (20000 * t + o + r) = ∑ r ∈ Finset.range 5000, f (20000 * t + o + r) :=
    fun o => Fin.sum_univ_eq_sum_range (fun r => f (20000 * t + o + r)) 5000
  rw [show 20000 * (t + 1) = 20000 * t + 0 + 5000 + 5000 + 5000 + 5000 by ring, Finset.sum_range_add, Finset.sum_range_add,
    Finset.sum_range_add, Finset.sum_range_add]
  rw [chunk, chunk, chunk, chunk]
  simp only [add_assoc, Nat.add_zero, Nat.zero_add, Nat.reduceAdd]

end Cert.Pool

end
-- ==== Proof.Blocks.lean ====
/-
  What the kernel's input blocks hold, in the program's arguments: block `t` of the features and of the batch numbers are
  the rows `20000 t …`; the weights are whole; the constant block holds the graphs' numbers over the first layer's offsets.
-/
module

public import proofs.«01_k».proof.Proof.Gen.KernelIdeal.Value
public import proofs.«01_k».proof.Proof.Chunk
public import proofs.«01_k».proof.Proof.Score
public import Idealize.ShloMosaic.Lib.Pipeline.ValueKit

@[expose] public section

set_option maxRecDepth 16384

noncomputable section

namespace Cert.KernelIdeal.Blocks

open Idealize.ShloMosaic Idealize.ShloMosaic.TcCoe Cert.KernelIdeal Cert.KernelIdeal.Gen Cert.Pool

variable (m : (ℓ : Loc nD τ sig) → Buf (Elt Ideal) ℓ)

/-- The program's arguments on device `c`, read as functions. -/
def args (c : Dev nD) : Args where
  h n d := m ((c : Thread nD τ).loc main_arg0) (ix2 n d)
  batch n := m ((c : Thread nD τ).loc main_arg1) (ix1 n)
  w1 k d := m ((c : Thread nD τ).loc main_arg2) (ix2 k d)
  b1 k := m ((c : Thread nD τ).loc main_arg3) (ix1 k)
  w2 k := m ((c : Thread nD τ).loc main_arg4) (ix2 0 k)

/-- Row `r` of block `t` is a node. -/
theorem lt_node (t : Fin cfg0.N) {r : ℕ} (hr : r < 20000) : 20000 * t.val + r < 100000 := by
  have := lt_of_lt_of_eq t.isLt (show cfg0.N = 5 from N_0); omega

/-- The two blocks that move with the grid point move along their leading axis only. -/
theorem idx (t : Fin cfg0.N) : win0_0.index t 0 = t.val ∧ win0_0.index t 1 = 0
    ∧ win0_1.index t 0 = t.val ∧ win0_1.index t 1 = 0 ∧ win0_1.index t 2 = 0 := by
  rcases fin_N0 t with rfl | rfl | rfl | rfl | rfl <;> decide

/-- The other blocks stay where they are. -/
theorem idx' (t : Fin cfg0.N) : win0_2.index t 0 = 0 ∧ win0_2.index t 1 = 0 ∧ win0_3.index t 0 = 0 ∧ win0_3.index t 1 = 0
    ∧ win0_4.index t 0 = 0 ∧ win0_4.index t 1 = 0 := by
  rcases fin_N0 t with rfl | rfl | rfl | rfl | rfl <;> decide

/-- Row `r` of the feature block at point `t`. -/
theorem feature (c : Dev nD) (t : Fin cfg0.N) (r : Fin 20000) (d : Fin 128) :
    (iblk m c 0 t : Vec Ideal S20000x128 .f32) (ix2 r d) = (args m c).h ⟨20000 * t.val + r, lt_node t r.isLt⟩ d := by
  show _ = m ((c : Thread nD τ).loc main_arg0) (ix2 _ _)
  blk_ext! [iblk, V, idx t]

/-- Entry `r` of the batch-number block at point `t`. -/
theorem number (c : Dev nD) (t : Fin cfg0.N) (r : Fin 20000) :
    (iblk m c 1 t : Vec Ideal S1x1x20000 .i32) (ix3 0 0 r) = (args m c).batch ⟨20000 * t.val + r, lt_node t r.isLt⟩ := by
  show _ = m ((c : Thread nD τ).loc main_arg1) (ix1 _)
  blk_ext! [iblk, V, idx t]

/-- The first layer's weights, at every point. -/
theorem hidden (c : Dev nD) (t : Fin cfg0.N) (k : Fin 64) (d : Fin 128) :
    (iblk m c 2 t : Vec Ideal S64x128 .f32) (ix2 k d) = (args m c).w1 k d := by
  show _ = m ((c : Thread nD τ).loc main_arg2) (ix2 _ _)
  blk_ext! [iblk, V, idx' t]

/-- The second layer's weights, at every point. -/
theorem output (c : Dev nD) (t : Fin cfg0.N) (k : Fin 64) :
    (iblk m c 3 t : Vec Ideal S1x64 .f32) (ix2 0 k) = (args m c).w2 k := by
  show _ = m ((c : Thread nD τ).loc main_arg4) (ix2 _ _)
  blk_ext! [iblk, V, idx' t]

/-- The constant block: in its first 64 rows the row's number, in the others the first layer's offsets. -/
theorem const (c : Dev nD) (t : Fin cfg0.N) (p : Fin 128) (r : Fin 5000) :
    (iblk m c 4 t : Vec Ideal S128x5000 .bf16) (ix2 p r)
      = if h : p.val < 64 then ((p.val : ℝ) : EReal) else (args m c).b1 ⟨p.val - 64, by omega⟩ := by
  have e : (iblk m c 4 t : Vec Ideal S128x5000 .bf16) (ix2 p r) = V m c main_call0_v7 (ix2 p r) := by
    blk_ext! [iblk, V, idx' t]
  rw [e]
  entry_read
  show truncf (F := Ideal) .bf16 (concatenate S128x5000 0
      [⟨S64x5000, broadcastInDim S64x5000 ![0, 1] bcast_S64x1_S64x5000_0_1
          (shapeCast S64x1 (sitofp (F := Ideal) .f32 (iotaInDim S64 32 0)) shapeCasts_S64_S64x1)⟩,
        ⟨S64x5000, broadcastInDim S64x5000 ![0, 1] bcast_S64x1_S64x5000_0_1
          (shapeCast S64x1 (m ((c : Thread nD τ).loc main_arg3)) shapeCasts_S64_S64x1)⟩]
      concatenates_S64x5000_S64x5000_S128x5000_d0) bitsLt_bf16_f32 (ix2 p r) = _
  pointwise
  by_cases h : p.val < 64
  · rw [dif_pos h, dif_pos h]
    show (((BitVec.ofNat 32 p.val).toInt : ℝ) : EReal) = _
    rw [BitVec.toInt_ofNat', Int.bmod_eq_of_le (by omega) (by omega), Int.cast_natCast]
  · rw [dif_neg h, dif_neg h]; rfl

end Cert.KernelIdeal.Blocks

end
-- ==== Proof.Sums.lean ====
/-
  What the kernel's accumulators hold: after grid point `t` the weighted feature sums and the weight sums run over the
  first `20000 (t + 1)` nodes, and after the last point the output holds their quotient.
-/
module

public import proofs.«01_k».proof.Proof.Blocks
public import Idealize.ShloMosaic.Lib.Pipeline.ReadBack

@[expose] public section

set_option maxRecDepth 16384

noncomputable section

namespace Cert.KernelIdeal.Sums

open Idealize.ShloMosaic Idealize.ShloMosaic.TcCoe Cert.KernelIdeal Cert.KernelIdeal.Gen Cert.Pool Cert.KernelIdeal.Blocks

variable (m : (ℓ : Loc nD τ sig) → Buf (Elt Ideal) ℓ)

/-- A chunk at offset `o` of block `t` gives its row `r` the weight of node `20000 t + o + r`. -/
theorem chunk_weight (c : Dev nD) (t : Fin cfg0.N) (o : ℕ) (ho : o + 5000 ≤ 20000) (hi0) (hi1) (hx) (hb) (g : Fin 64)
    (r : Fin 5000) :
    k0_pay15 (F := Ideal) (k0_pay5 (View.ld (iblk m c 4 t) (Rect.unit ![0, 0] ![64, 5000] hi0)))
        (k0_pay6 (View.ld (iblk m c 4 t) (Rect.unit ![64, 0] ![64, 5000] hi1))) (k0_pay7 (iblk m c 2 t))
        (k0_pay8 (iblk m c 3 t)) (View.ld (iblk m c 0 t) (Rect.unit ![o, 0] ![5000, 128] hx))
        (View.ld (iblk m c 1 t) (Rect.unit ![0, 0, o] ![1, 1, 5000] hb)) (ix2 g r)
      = ext ((args m c).weight g) (20000 * t.val + o + r) := by
  have hlt := lt_node t (r := o + r.val) (by omega)
  rw [← Nat.add_assoc] at hlt
  rw [Chunk.weight_apply, ext_of_lt _ hlt]
  pointwise [k0_pay5, k0_pay6, k0_pay7, k0_pay8]
  have en : ∀ h', (⟨20000 * t.val + (o + r.val), h'⟩ : Fin 100000) = ⟨20000 * t.val + o + r, hlt⟩ :=
    fun _ => Fin.ext (Nat.add_assoc _ _ _).symm
  have e0 := (const m c t ⟨g, by omega⟩ r).trans (dif_pos g.isLt)
  have e1 : ∀ k : Fin 64, (iblk m c 4 t : Vec Ideal S128x5000 .bf16) (ix2 ⟨64 + k, by omega⟩ r) = (args m c).b1 k := fun k =>
    (const m c t ⟨64 + k, by omega⟩ r).trans ((dif_neg (by simp)).trans (congrArg _ (Fin.ext (by simp))))
  have e2 := (number m c t ⟨o + r, by omega⟩).trans (congrArg (args m c).batch (en _))
  have e3 : ∀ d : Fin 128, (iblk m c 0 t : Vec Ideal S20000x128 .f32) (ix2 ⟨o + r, by omega⟩ d) = _ := fun d =>
    (feature m c t ⟨o + r, by omega⟩ d).trans (congrFun (congrArg (args m c).h (en _)) d)
  rw [e0, e2]
  simp only [e1, e3, hidden m c t, output m c t]
  unfold Args.weight Args.s score
  refine if_congr ?_ rfl rfl
  show ((g.val : ℝ) : EReal) = (((args m c).batch ⟨20000 * t.val + o + r, hlt⟩).toInt : ℝ) ↔ _
  rw [EReal.coe_eq_coe_iff, eq_comm]
  norm_cast

/-- A chunk's part of the weighted feature sums, as a stretch of nodes. -/
theorem chunk_num (c : Dev nD) (t : Fin cfg0.N) (o : ℕ) (ho : o + 5000 ≤ 20000) (hi0) (hi1) (hx) (hb) (g : Fin 64)
    (d : Fin 128) :
    k0_pay16 (F := Ideal) (k0_pay5 (View.ld (iblk m c 4 t) (Rect.unit ![0, 0] ![64, 5000] hi0)))
        (k0_pay6 (View.ld (iblk m c 4 t) (Rect.unit ![64, 0] ![64, 5000] hi1))) (k0_pay7 (iblk m c 2 t))
        (k0_pay8 (iblk m c 3 t)) (View.ld (iblk m c 0 t) (Rect.unit ![o, 0] ![5000, 128] hx))
        (View.ld (iblk m c 1 t) (Rect.unit ![0, 0, o] ![1, 1, 5000] hb)) (ix2 g d)
      = ∑ r : Fin 5000, ext (fun n => (args m c).weight g n * (args m c).h n d) (20000 * t.val + o + r) := by
  rw [Chunk.num_apply]
  refine Finset.sum_congr rfl fun r _ => ?_
  have hlt := lt_node t (r := o + r.val) (by omega)
  rw [chunk_weight m c t o ho]
  rw [← Nat.add_assoc] at hlt
  rw [ext_of_lt _ hlt, ext_of_lt _ hlt]
  congr 1
  pointwise
  exact (feature m c t ⟨o + r, by omega⟩ d).trans
    (congrFun (congrArg (args m c).h (Fin.ext (Nat.add_assoc _ _ _).symm)) d)

/-- A chunk's part of the weight sums, as a stretch of nodes. -/
theorem chunk_den (c : Dev nD) (t : Fin cfg0.N) (o : ℕ) (ho : o + 5000 ≤ 20000) (hi0) (hi1) (hx) (hb) (p : Fin 8)
    (g : Fin 64) :
    k0_pay17 (F := Ideal) (k0_pay5 (View.ld (iblk m c 4 t) (Rect.unit ![0, 0] ![64, 5000] hi0)))
        (k0_pay6 (View.ld (iblk m c 4 t) (Rect.unit ![64, 0] ![64, 5000] hi1))) (k0_pay7 (iblk m c 2 t))
        (k0_pay8 (iblk m c 3 t)) k0_pay9 (View.ld (iblk m c 0 t) (Rect.unit ![o, 0] ![5000, 128] hx))
        (View.ld (iblk m c 1 t) (Rect.unit ![0, 0, o] ![1, 1, 5000] hb)) (ix2 p g)
      = ∑ r : Fin 5000, ext ((args m c).weight g) (20000 * t.val + o + r) := by
  rw [Chunk.den_apply]
  exact Finset.sum_congr rfl fun r _ => chunk_weight m c t o ho _ _ _ _ g r

/-- The state a grid point leaves is a pair of sums over the first `N` nodes. -/
def Holds (c : Dev nD) (N : ℕ) (num : Vec Ideal S64x128 .f32) (den : Vec Ideal S8x64 .f32) : Prop :=
  (∀ (g : Fin 64) (d : Fin 128), num (ix2 g d) = ∑ n ∈ Finset.range N, ext (fun n => (args m c).weight g n * (args m c).h n d) n)
  ∧ ∀ (p : Fin 8) (g : Fin 64), den (ix2 p g) = ∑ n ∈ Finset.range N, ext ((args m c).weight g) n

/-- The reset leaves the sums over no node. -/
theorem holds_zero (c : Dev nD) : Holds m c 0 (k0_pay3 (F := Ideal)) (k0_pay4 (F := Ideal)) := by
  refine ⟨fun g d => ?_, fun p g => ?_⟩
  · rw [Finset.sum_range_zero]; pointwise [k0_pay3]
  · rw [Finset.sum_range_zero]; pointwise [k0_pay4]

/-- The first point: whatever was there before, it leaves the sums over the first block. -/
theorem holds_first (c : Dev nD) (t : Fin cfg0.N) (h0 : t.val % 5 = 0) (h1 : ¬t.val % 5 = 4) (acc) :
    Holds m c (20000 * (0 + 1)) (Value.stAt0 m c t.val t.isLt acc).2.1 (Value.stAt0 m c t.val t.isLt acc).2.2 := by
  have ht : t.val = 0 := by have := lt_of_lt_of_eq t.isLt (show cfg0.N = 5 from N_0); omega
  rw [Value.stAt0_A m c t _ h0 h1]
  refine ⟨fun g d => ?_, fun p g => ?_⟩
  · frame_out
    rw [Chunk.step_num, (holds_zero m c).1]
    rw [chunk_num m c t 0 (by decide), chunk_num m c t 5000 (by decide), chunk_num m c t 10000 (by decide),
      chunk_num m c t 15000 (by decide)]
    rw [← four_chunks, ht]
  · frame_out
    rw [Chunk.step_den, (holds_zero m c).2]
    rw [chunk_den m c t 0 (by decide), chunk_den m c t 5000 (by decide), chunk_den m c t 10000 (by decide),
      chunk_den m c t 15000 (by decide)]
    rw [← four_chunks, ht]

/-- A later point adds its block's nodes to the sums. -/
theorem holds_next (c : Dev nD) (t : Fin cfg0.N) (h0 : ¬t.val % 5 = 0) (acc)
    (h : Holds m c (20000 * t.val) acc.2.1 acc.2.2) :
    Holds m c (20000 * (t.val + 1)) (Value.stAt0 m c t.val t.isLt acc).2.1 (Value.stAt0 m c t.val t.isLt acc).2.2 := by
  by_cases h1 : t.val % 5 = 4
  on_goal 1 => rw [Value.stAt0_C m c t _ h0 h1]
  on_goal 2 => rw [Value.stAt0_B m c t _ h0 h1]
  all_goals
    refine ⟨fun g d => ?_, fun p g => ?_⟩
    · frame_out
      simp only [read_unread_whole]
      rw [Chunk.step_num, h.1, chunk_num m c t 0 (by decide), chunk_num m c t 5000 (by decide),
        chunk_num m c t 10000 (by decide), chunk_num m c t 15000 (by decide), four_chunks]
    · frame_out
      simp only [read_unread_whole]
      rw [Chunk.step_den, h.2, chunk_den m c t 0 (by decide), chunk_den m c t 5000 (by decide),
        chunk_den m c t 10000 (by decide), chunk_den m c t 15000 (by decide), four_chunks]

/-- The last point's output is the quotient of the sums it leaves. -/
theorem last (c : Dev nD) (t : Fin cfg0.N) (h0 : ¬t.val % 5 = 0) (h1 : t.val % 5 = 4) (acc) :
    (Value.stAt0 m c t.val t.isLt acc).1
      = k0_pay2 (F := Ideal) (Value.stAt0 m c t.val t.isLt acc).2.2 (Value.stAt0 m c t.val t.isLt acc).2.1 := by
  rw [Value.stAt0_C m c t _ h0 h1]
  frame_out

end Cert.KernelIdeal.Sums

end
-- ==== Proof.Kernel.lean ====
/-
  What the kernel leaves in its result array: at graph `g` and feature `d` the weighted feature sum over the weight sum.
-/
module

public import proofs.«01_k».proof.Proof.Sums

@[expose] public section

set_option maxRecDepth 16384

noncomputable section

namespace Cert.KernelIdeal.Result

open Idealize.ShloMosaic Idealize.ShloMosaic.TcCoe Cert.KernelIdeal Cert.KernelIdeal.Gen Cert.Pool Cert.KernelIdeal.Blocks
  Cert.KernelIdeal.Sums

variable (m : (ℓ : Loc nD τ sig) → Buf (Elt Ideal) ℓ)

/-- The state after point `n`. -/
def state (c : Dev nD) (n : ℕ) (h : 0 + n < cfg0.N) :
    Vec Ideal S64x128 .f32 × Vec Ideal S64x128 .f32 × Vec Ideal S8x64 .f32 :=
  Pipeline.accAt (fun n h => Value.stAt0 m c n h Value.junk0) (Value.stAt0 m c) 0 n h

/-- After point `n` the accumulators run over the first `n + 1` blocks. -/
theorem holds (c : Dev nD) (n : ℕ) (h : 0 + n < cfg0.N) :
    Holds m c (20000 * (n + 1)) (state m c n h).2.1 (state m c n h).2.2 := by
  have hN : cfg0.N = 5 := N_0
  induction n with
  | zero => exact holds_first m c ⟨0, by omega⟩ rfl (show ¬0 % 5 = 4 by decide) Value.junk0
  | succ n ih =>
    have e : state m c (n + 1) h = Value.stAt0 m c (n + 1) (by omega) (state m c n (by omega)) := by
      unfold state
      rw [Pipeline.accAt_succ]
      congr 1
      omega
    rw [e]
    exact holds_next m c ⟨n + 1, by omega⟩ (show ¬(n + 1) % 5 = 0 by omega) _ (ih (by omega))

/-- An eighth of a number, added up eight times, is the number. -/
theorem eighths (x : EReal) : ∑ _p : Fin 8, x * Ideal.ofBits .f32 0x3E000000#32 = x := by
  have e : Ideal.ofBits .f32 0x3E000000#32 = ((1 / 8 : ℝ) : EReal) := by
    simp [Ideal.ofBits, Ideal.ieee, -EReal.coe_mul]
    norm_num
  rw [e, Finset.sum_const, Finset.card_univ, Fintype.card_fin, EReal.nsmul_eq_mul, mul_left_comm]
  have h8 : ((8 : ℕ) : EReal) * ((1 / 8 : ℝ) : EReal) = 1 := by
    rw [show ((8 : ℕ) : EReal) = ((8 : ℝ) : EReal) by norm_cast, ← EReal.coe_mul]
    norm_num
  rw [h8, mul_one]

/-- The kernel's result. -/
theorem value (c : Dev nD) (g : Fin 64) (d : Fin 128) :
    Value.G5 m c (ix2 g d)
      = Ideal.div ((args m c).num g d) (if (args m c).den g = 0 then 1 else (args m c).den g) := by
  have hN : cfg0.N = 5 := N_0
  have e : Value.G5 m c = (state m c 4 (by omega)).1 := Value.G5_last m c
  have e4 : state m c 4 (by omega) = Value.stAt0 m c 4 (by omega) (state m c 3 (by omega)) := rfl
  have hl := last m c ⟨4, by omega⟩ (show ¬4 % 5 = 0 by decide) rfl (state m c 3 (by omega))
  have h := holds m c 4 (by omega)
  rw [e, e4, hl]
  rw [e4] at h
  have hden : ∀ p : Fin 8, _ = (args m c).den g := fun p => (h.2 p g).trans (sum_ext _)
  have hnum := (h.1 g d).trans (sum_ext _)
  rw [Chunk.last_apply]
  simp only [hden, eighths]
  rw [hnum]
  rfl

end Cert.KernelIdeal.Result

end
-- ==== Proof.Reference.lean ====
/-
  What the reference computes, read at an index: each stage of its term is named and read over the extended reals, the
  gathers and scatters by the graph number of a node.
-/
module

public import proofs.«01_k».proof.Proof.Gen.ReferenceIdeal.Run
public import proofs.«01_k».proof.Proof.Score
public import Idealize.ShloMosaic.Lib.Pointwise
public import Idealize.ShloMosaic.Lib.StableHlo.Predicate
public import Idealize.ShloMosaic.Lib.Routing.OpsPair

@[expose] public section

set_option maxRecDepth 16384

noncomputable section

namespace Cert.ReferenceIdeal.Stages

open Idealize.ShloMosaic Idealize.ShloMosaic.TcCoe Cert.ReferenceIdeal Cert.ReferenceIdeal.Gen Cert.Pool

/-- The scores of the nodes with the second layer's offset, one per node. -/
def scores (x : FVec Ideal S100000x128 .f32) (w1 : FVec Ideal S64x128 .f32) (b1 : FVec Ideal S64 .f32) (w2 : FVec Ideal S1x64 .f32)
    (b2 : FVec Ideal S1 .f32) : FVec Ideal S100000 .f32 :=
  shapeCast S100000 (addf (Host.dotGeneral dot_S100000x64_S64x1_S100000x1_1_0_0_1_n_n none
      (Host.tanh (addf (Host.dotGeneral dot_S100000x128_S128x64_S100000x64_1_0_0_1_n_n none x
          (transpose S128x64 [1, 0] w1 transposes_S64x128_S128x64_1_0))
        (broadcastInDim S100000x64 ![0, 1] bcast_S1x64_S100000x64_0_1 (broadcastInDim S1x64 ![1] bcast_S64_S1x64_1 b1))))
      (transpose S64x1 [1, 0] w2 transposes_S1x64_S64x1_1_0))
    (broadcastInDim S100000x1 ![0, 1] bcast_S1x1_S100000x1_0_1 (broadcastInDim S1x1 ![1] bcast_S1_S1x1_1 b2)))
    shapeCasts_S100000x1_S100000

/-- The largest score of each graph. -/
def largest (b : IVec S100000 32) (s : FVec Ideal S100000 .f32) : FVec Ideal S64 .f32 :=
  Host.reduce FloatOps.maximumf (select
    (cmpi .eq (broadcastInDim S64x100000 ![0, 1] bcast_S1x100000_S64x100000_0_1 (broadcastInDim S1x100000 ![1] bcast_S100000_S1x100000_1 b))
      (broadcastInDim S64x100000 ![0, 1] bcast_S64x1_S64x100000_0_1 (broadcastInDim S64x1 ![0] bcast_S64_S64x1_0 (iotaInDim S64 32 0))))
    (broadcastInDim S64x100000 ![0, 1] bcast_S1x100000_S64x100000_0_1 (broadcastInDim S1x100000 ![1] bcast_S100000_S1x100000_1 s))
    (broadcastInDim S64x100000 ![] bcast_S_S64x100000 (id (constant S_ .f32 0xFF800000#32))))
    (constant S_ .f32 0xFF800000#32) reducesTo_S64x100000_S64_d1 h_S_

/-- A per-graph quantity read at each node's graph (a negative number counted from the end). -/
def perNode (b : IVec S100000 32) (v : FVec Ideal S64 .f32) : FVec Ideal S100000 .f32 :=
  Host.gather gather_S64_S100000x1_S100000_n_0_n_n_0_1_1 v (broadcastInDim S100000x1 ![0] bcast_S100000_S100000x1_0
    (select (cmpi .slt b (broadcastInDim S100000 ![] bcast_S_S100000 (constantI S_ 32 0#32)))
      (addi b (broadcastInDim S100000 ![] bcast_S_S100000 (constantI S_ 32 64#32))) b))

/-- A per-node quantity added up over each graph. -/
def perGraph (b : IVec S100000 32) (v : FVec Ideal S100000 .f32) : FVec Ideal S64 .f32 :=
  Host.scatterAdd scatter_S64_S100000x1_S100000_n_0_0_1 (broadcastInDim S64 ![] bcast_S_S64 (constant S_ .f32 0x00000000#32))
    (broadcastInDim S100000x1 ![0] bcast_S100000_S100000x1_0 b) v

/-- A per-node vector of features added up over each graph. -/
def pooled (b : IVec S100000 32) (v : FVec Ideal S100000x128 .f32) : FVec Ideal S64x128 .f32 :=
  Host.scatterAdd scatter_S64x128_S100000x1_S100000x128_1_0_0_1
    (broadcastInDim S64x128 ![] bcast_S_S64x128 (constant S_ .f32 0x00000000#32))
    (broadcastInDim S100000x1 ![0] bcast_S100000_S100000x1_0 b) v

/-- The exponentials of the scores, each shifted by its graph's largest. -/
def shifted (b : IVec S100000 32) (s : FVec Ideal S100000 .f32) : FVec Ideal S100000 .f32 :=
  Host.exp (subf s (perNode b (largest b s)))

/-- The features weighted by the softmax over their graph. -/
def weighted (x : FVec Ideal S100000x128 .f32) (b : IVec S100000 32) (s : FVec Ideal S100000 .f32) :
    FVec Ideal S100000x128 .f32 :=
  mulf x (broadcastInDim S100000x128 ![0, 1] bcast_S100000x1_S100000x128_0_1
    (broadcastInDim S100000x1 ![0] bcast_S100000_S100000x1_0
      (Host.divf (shifted b s) (perNode b (perGraph b (shifted b s))))))

/-- The reference's result is the last of these stages. -/
theorem res_eq (m : (ℓ : Loc nD τ sig) → Buf (Elt Ideal) ℓ) (c : Dev nD) :
    Value.res_main_v46 (F := Ideal) m c
      = pooled (m ((c : Thread nD τ).loc main_arg1)) (weighted (m ((c : Thread nD τ).loc main_arg0)) (m ((c : Thread nD τ).loc main_arg1))
          (scores (m ((c : Thread nD τ).loc main_arg0)) (m ((c : Thread nD τ).loc main_arg2)) (m ((c : Thread nD τ).loc main_arg3))
            (m ((c : Thread nD τ).loc main_arg4)) (m ((c : Thread nD τ).loc main_arg5)))) := rfl

/-- A node's score, as the mathematical one with the second layer's offset added. -/
theorem scores_apply (x w1 b1 w2 b2) (n : Fin 100000) :
    scores x w1 b1 w2 b2 (ix1 n)
      = score (fun k d => w1 (ix2 k d)) (fun k => b1 (ix1 k)) (fun k => w2 (ix2 0 k)) (fun d => x (ix2 n d)) + b2 (ix1 0) := by
  pointwise [scores]
  unfold score
  simp only [mul_comm]

/-- The word `g` names graph `g`, and no other word does. -/
theorem word_iff (w : BitVec 32) (g : Fin 64) : w = BitVec.ofNat 32 g.val ↔ w.toInt = (g.val : ℤ) := by
  have hg : (BitVec.ofNat 32 g.val).toInt = (g.val : ℤ) := by
    rw [BitVec.toInt_ofNat', Int.bmod_eq_of_le (by omega) (by omega)]
  rw [← hg, BitVec.toInt_inj]

/-- A graph's largest score, minus infinity for the nodes that are not in it. -/
theorem largest_apply (b s) (g : Fin 64) :
    largest b s (ix1 g)
      = Finset.univ.fold max ⊥ fun n : Fin 100000 => if (b (ix1 n)).toInt = (g.val : ℤ) then s (ix1 n) else ⊥ := by
  have hbot : Ideal.ofBits .f32 0xFF800000#32 = (⊥ : EReal) := by simp [Ideal.ofBits, Ideal.ieee]
  pointwise [largest]
  rw [hbot]
  congr 1
  funext n
  simp only [← word_iff]
  show Scalar.select _ _ (Ideal.ofBits .f32 0xFF800000#32) = _
  rw [hbot]
  by_cases h : b (ix1 n) = BitVec.ofNat 32 g.val
  · simp [Scalar.select, IntOp.cmpi, h]
  · simp [Scalar.select, IntOp.cmpi, beq_eq_false_iff_ne.mpr h, h]

/-- At a node of graph `g` a per-graph quantity reads its entry `g`. -/
theorem perNode_apply (b v) (n : Fin 100000) (g : Fin 64) (h : (b (ix1 n)).toInt = (g.val : ℤ)) :
    perNode b v (ix1 n) = v (ix1 g) := by
  have hn : (ix1 n : S100000.Idx) = Shape.Idx.ofFin n := by funext a; match a with | ⟨0, _⟩ => rfl
  unfold perNode
  rw [hn, StableHlo.Predicate.gather_take _ rfl rfl rfl rfl _ _ _ (by decide)]
  have hg : Shape.Idx.ofFin g = (ix1 g : S64.Idx) := by funext a; match a with | ⟨0, _⟩ => rfl
  rw [← hg]
  congr 2
  apply Fin.ext
  show min _ _ = g.val
  have hi : (StableHlo.Predicate.ixP n : S100000x1.Idx) = ix2 n 0 := by funext a; match a with | ⟨0, _⟩ => rfl | ⟨1, _⟩ => rfl
  rw [hi]
  pointwise
  have hlt : IntOp.cmpi .slt (b (ix1 n)) 0#32 = 0#1 := by
    have : (b (ix1 n)).slt 0#32 = false := by
      rw [BitVec.slt, h]; simp
    simp [IntOp.cmpi, this]
  rw [hlt, Scalar.select, if_neg (by decide), h]
  omega

/-- Adding up a per-node quantity over a graph takes the nodes of that graph. -/
theorem perGraph_apply (b v) (g : Fin 64) :
    perGraph b v (ix1 g) = ∑ n : Fin 100000, if (b (ix1 n)).toInt = (g.val : ℤ) then v (ix1 n) else 0 := by
  have hz : (broadcastInDim S64 ![] bcast_S_S64 (constant (F := Ideal) S_ .f32 0x00000000#32)) (ix1 g) = (0 : EReal) := by pointwise
  show Ideal.hostScatterAdd _ _ _ _ _ = _
  unfold Ideal.hostScatterAdd
  rw [hz, zero_add, Finset.sum_filter, sum_idx1]
  refine Finset.sum_congr rfl fun n _ => if_congr ?_ rfl rfl
  rw [Routing.resultIdx?_eq_some]
  have hs : scatter_S64_S100000x1_S100000_n_0_0_1.start (ix1 n) (broadcastInDim S100000x1 ![0] bcast_S100000_S100000x1_0 b) 0
      = (b (ix1 n)).toInt := by
    have hi : (broadcastInDim S100000x1 ![0] bcast_S100000_S100000x1_0 b) (ix2 n 0) = b (ix1 n) := by pointwise
    rw [← hi]
    unfold ScatterDims.start
    rw [dif_pos (by decide)]
    congr 2
    funext a
    match a with
    | ⟨0, _⟩ => rfl
    | ⟨1, _⟩ => rfl
  have hw : scatter_S64_S100000x1_S100000_n_0_0_1.window (ix1 n) 0 = 0 := by
    unfold ScatterDims.window
    rw [dif_neg (by decide)]
  constructor
  · intro h
    have := h 0
    rw [hs, hw] at this
    simpa using this
  · intro h a
    match a with
    | ⟨0, _⟩ =>
      show ScatterDims.start _ _ _ 0 + ((ScatterDims.window _ _ 0 : ℕ) : ℤ) = _
      rw [hs, hw]; simpa using h

/-- Adding up per-node features over a graph takes the nodes of that graph, feature by feature. -/
theorem pooled_apply (b v) (g : Fin 64) (d : Fin 128) :
    pooled b v (ix2 g d) = ∑ n : Fin 100000, if (b (ix1 n)).toInt = (g.val : ℤ) then v (ix2 n d) else 0 := by
  have hz : (broadcastInDim S64x128 ![] bcast_S_S64x128 (constant (F := Ideal) S_ .f32 0x00000000#32)) (ix2 g d) = (0 : EReal) := by
    pointwise
  show Ideal.hostScatterAdd _ _ _ _ _ = _
  unfold Ideal.hostScatterAdd
  rw [hz, zero_add, Finset.sum_filter, sum_idx2]
  refine Finset.sum_congr rfl fun n _ => ?_
  have key : ∀ e : Fin 128, scatter_S64x128_S100000x1_S100000x128_1_0_0_1.resultIdx? (ix2 n e)
      (broadcastInDim S100000x1 ![0] bcast_S100000_S100000x1_0 b) = some (ix2 g d) ↔ (b (ix1 n)).toInt = (g.val : ℤ) ∧ e = d := fun e => by
    have hs : scatter_S64x128_S100000x1_S100000x128_1_0_0_1.start (ix2 n e) (broadcastInDim S100000x1 ![0] bcast_S100000_S100000x1_0 b) 0
        = (b (ix1 n)).toInt := by
      have hi : (broadcastInDim S100000x1 ![0] bcast_S100000_S100000x1_0 b) (ix2 n 0) = b (ix1 n) := by pointwise
      rw [← hi]
      unfold ScatterDims.start
      rw [dif_pos (by decide)]
      congr 2
      funext a
      match a with
      | ⟨0, _⟩ => rfl
      | ⟨1, _⟩ => rfl
    have hs1 : scatter_S64x128_S100000x1_S100000x128_1_0_0_1.start (ix2 n e) (broadcastInDim S100000x1 ![0] bcast_S100000_S100000x1_0 b) 1
        = 0 := by
      unfold ScatterDims.start
      rw [dif_neg (by decide)]
    have hw : scatter_S64x128_S100000x1_S100000x128_1_0_0_1.window (ix2 n e) 0 = 0 := by
      unfold ScatterDims.window
      rw [dif_neg (by decide)]
    have hw1 : scatter_S64x128_S100000x1_S100000x128_1_0_0_1.window (ix2 n e) 1 = e.val := by
      unfold ScatterDims.window
      rw [dif_pos (by decide)]
      rfl
    rw [Routing.resultIdx?_eq_some]
    constructor
    · intro h
      have h0 := h 0
      have h1 := h 1
      rw [hs, hw] at h0
      rw [hs1, hw1] at h1
      refine ⟨by simpa using h0, Fin.ext ?_⟩
      have : (e.val : ℤ) = d.val := by simpa using h1
      exact_mod_cast this
    · rintro ⟨h, rfl⟩ a
      match a with
      | ⟨0, _⟩ =>
        show ScatterDims.start _ _ _ 0 + ((ScatterDims.window _ _ 0 : ℕ) : ℤ) = _
        rw [hs, hw]; simpa using h
      | ⟨1, _⟩ =>
        show ScatterDims.start _ _ _ 1 + ((ScatterDims.window _ _ 1 : ℕ) : ℤ) = _
        rw [hs1, hw1]; exact zero_add _
  simp only [key]
  by_cases h : (b (ix1 n)).toInt = (g.val : ℤ) <;> simp [h]

/-- The reference's result at a graph and a feature: over the graph's nodes, the feature times the softmax weight. -/
theorem result_apply (x b s) (g : Fin 64) (d : Fin 128) :
    pooled b (weighted x b s) (ix2 g d)
      = ∑ n : Fin 100000, if (b (ix1 n)).toInt = (g.val : ℤ) then
          x (ix2 n d) * Ideal.div (Ideal.exp (s (ix1 n) - largest b s (ix1 g)))
            (∑ k : Fin 100000, if (b (ix1 k)).toInt = (g.val : ℤ) then Ideal.exp (s (ix1 k) - largest b s (ix1 g)) else 0)
        else 0 := by
  have hsh : ∀ n : Fin 100000, (b (ix1 n)).toInt = (g.val : ℤ) →
      shifted b s (ix1 n) = Ideal.exp (s (ix1 n) - largest b s (ix1 g)) := fun n h => by
    pointwise [shifted]
    rw [perNode_apply b _ n g h]
  have hden : (∑ k : Fin 100000, if (b (ix1 k)).toInt = (g.val : ℤ) then shifted b s (ix1 k) else 0)
      = ∑ k : Fin 100000, if (b (ix1 k)).toInt = (g.val : ℤ) then Ideal.exp (s (ix1 k) - largest b s (ix1 g)) else 0 :=
    Finset.sum_congr rfl fun k _ => by
      by_cases h : (b (ix1 k)).toInt = (g.val : ℤ)
      · rw [if_pos h, if_pos h, hsh k h]
      · rw [if_neg h, if_neg h]
  rw [pooled_apply]
  refine Finset.sum_congr rfl fun n _ => ?_
  by_cases h : (b (ix1 n)).toInt = (g.val : ℤ)
  · rw [if_pos h, if_pos h]
    have hw : weighted x b s (ix2 n d)
        = x (ix2 n d) * Ideal.div (shifted b s (ix1 n)) (perNode b (perGraph b (shifted b s)) (ix1 n)) := by
      unfold weighted
      generalize shifted b s = e
      generalize perNode b (perGraph b e) = q
      pointwise
    rw [hw, perNode_apply b _ n g h, perGraph_apply, hsh n h, hden]
  · rw [if_neg h, if_neg h]

end Cert.ReferenceIdeal.Stages

end
-- ==== Proof.Softmax.lean ====
/-
  The identity between the two softmaxes over the extended reals: shifting the scores by the group's maximum and dividing
  each weight by the shifted weights' sum gives, with finite scores, the unshifted weighted sum divided by the weights' sum.
-/
module

public import proofs.«01_k».proof.Proof.Score

@[expose] public section

noncomputable section

namespace Cert.Pool

open Idealize.ShloMosaic

/-- The hyperbolic tangent of any extended real is a real number. -/
theorem tanh_real (x : EReal) : ∃ r : ℝ, Ideal.tanh x = (r : EReal) := by
  induction x with
  | bot => exact ⟨-1, by show (-1 : EReal) = _; simp⟩
  | top => exact ⟨1, by show (1 : EReal) = _; simp⟩
  | coe r => exact ⟨Real.tanh r, rfl⟩

/-- A finite sum of reals, taken over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With finite second-layer weights every score is a real number, whatever the features and the first layer are. -/
theorem score_real (w1 : Fin 64 → Fin 128 → EReal) (b1 w2 : Fin 64 → EReal) (x : Fin 128 → EReal)
    (hw : ∀ k, ∃ r : ℝ, w2 k = (r : EReal)) : ∃ r : ℝ, score w1 b1 w2 x = (r : EReal) := by
  choose w hw using hw
  choose t ht using fun k : Fin 64 => tanh_real (∑ d : Fin 128, w1 k d * x d + b1 k)
  refine ⟨∑ k, w k * t k, ?_⟩
  rw [coe_sum]
  exact Finset.sum_congr rfl fun k _ => by rw [hw, ht, EReal.coe_mul]

/-- A finite nonnegative factor goes into a sum, whatever the terms. -/
theorem sum_mul_of_nonneg {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The quotient of two reals, the divisor nonzero. -/
theorem div_coe (x : EReal) {y : ℝ} (hy : y ≠ 0) : Ideal.div x (y : EReal) = x * ((y⁻¹ : ℝ) : EReal) := by
  unfold Ideal.div
  rw [if_neg (by simpa using hy), EReal.coe_inv]

/-- The maximum of a nonempty selection of real numbers, the rest standing at minus infinity, is a real number. -/
theorem max_real {ι : Type} [Fintype ι] (P : ι → Prop) [DecidablePred P] (f : ι → ℝ) (n₀ : ι) (h₀ : P n₀) :
    ∃ M : ℝ, Finset.univ.fold max (⊥ : EReal) (fun n => if P n then (f n : EReal) else ⊥) = (M : EReal) := by
  have e : Finset.univ.fold max (⊥ : EReal) (fun n => if P n then (f n : EReal) else ⊥)
      = Finset.univ.sup fun n => if P n then (f n : EReal) else ⊥ := rfl
  rw [e]
  have ht : (Finset.univ.sup fun n => if P n then (f n : EReal) else ⊥) < ⊤ := by
    rw [Finset.sup_lt_iff bot_lt_top]
    intro n _
    by_cases h : P n <;> simp [h]
  have hb : (⊥ : EReal) < Finset.univ.sup fun n => if P n then (f n : EReal) else ⊥ :=
    lt_of_lt_of_le (by rw [if_pos h₀]; exact EReal.bot_lt_coe (f n₀))
      (Finset.le_sup (f := fun n => if P n then (f n : EReal) else ⊥) (Finset.mem_univ n₀))
  exact ⟨_, (EReal.coe_toReal ht.ne hb.ne').symm⟩

/-- THE EQUATION: over a group `P` of nodes with real scores `s`, the features `h` averaged by the softmax of the scores
    offset by `b` and shifted by their maximum is the unshifted weighted sum over the weights' sum. The empty group gives
    zero on both sides. -/
theorem softmax_shift {ι : Type} [Fintype ι] (P : ι → Prop) [DecidablePred P] (s : ι → ℝ) (b : ℝ) (h : ι → EReal)
    (M : EReal) (hM : M = Finset.univ.fold max ⊥ fun n => if P n then (s n : EReal) + b else ⊥) :
    (∑ n, if P n then h n * Ideal.div (Ideal.exp ((s n : EReal) + b - M))
        (∑ k, if P k then Ideal.exp ((s k : EReal) + b - M) else 0) else 0)
      = Ideal.div (∑ n, (if P n then Ideal.exp (s n) else 0) * h n)
          (if (∑ n, if P n then Ideal.exp (s n) else 0) = 0 then 1 else ∑ n, if P n then Ideal.exp (s n) else 0) := by
  by_cases hP : ∃ n, P n
  · obtain ⟨n₀, h₀⟩ := hP
    obtain ⟨m, hm⟩ := max_real P (fun n => s n + b) n₀ h₀
    have hMm : M = (m : EReal) := by rw [hM, ← hm]; simp only [EReal.coe_add]
    have he : ∀ n, Ideal.exp ((s n : EReal) + b - M) = ((Real.exp (s n) * Real.exp (b - m) : ℝ) : EReal) := fun n => by
      rw [hMm, ← EReal.coe_add, ← EReal.coe_sub, ← Real.exp_add, show s n + b - m = s n + (b - m) by ring]; rfl
    have hd : ∀ c : ℝ, (∑ n, if P n then ((Real.exp (s n) * c : ℝ) : EReal) else 0)
        = (((∑ n, if P n then Real.exp (s n) else 0) * c : ℝ) : EReal) := fun c => by
      rw [Finset.sum_mul, coe_sum]
      exact Finset.sum_congr rfl fun n _ => by by_cases h : P n <;> simp [h]
    have hd1 : (∑ n, if P n then Ideal.exp (s n) else 0) = ((∑ n, if P n then Real.exp (s n) else 0 : ℝ) : EReal) := by
      rw [← mul_one (∑ n, if P n then Real.exp (s n) else 0), ← hd 1]
      simp only [mul_one]; rfl
    have hpos : 0 < ∑ n, if P n then Real.exp (s n) else 0 :=
      Finset.sum_pos' (fun n _ => by by_cases h : P n <;> simp [h, Real.exp_nonneg])
        ⟨n₀, Finset.mem_univ _, by rw [if_pos h₀]; exact Real.exp_pos _⟩
    simp only [he]
    rw [hd1, hd]
    generalize (∑ n, if P n then Real.exp (s n) else 0 : ℝ) = D at hpos ⊢
    have hc := Real.exp_pos (b - m)
    rw [if_neg (by simpa using hpos.ne'), div_coe _ hpos.ne', sum_mul_of_nonneg _ _ _ (inv_nonneg.mpr hpos.le)]
    refine Finset.sum_congr rfl fun n _ => ?_
    by_cases h' : P n
    · rw [if_pos h', if_pos h', div_coe _ (mul_pos hpos hc).ne', ← EReal.coe_mul]
      show _ = ((Real.exp (s n) : ℝ) : EReal) * h n * _
      rw [mul_comm ((Real.exp (s n) : ℝ) : EReal), mul_assoc (h n), ← EReal.coe_mul]
      congr 2
      field_simp
    · rw [if_neg h', if_neg h', zero_mul, zero_mul]
  · have hP' : ∀ n, ¬P n := fun n hn => hP ⟨n, hn⟩
    simp [hP', Ideal.div]

end Cert.Pool

end
-- ==== Proof.Equation.lean ====
/-
  The kernel's result is the reference's: both are read at an index, the precondition makes the scores real numbers, and
  the shifted softmax is the unshifted one.
-/
module

public import proofs.«01_k».proof.Defs
public import proofs.«01_k».proof.Proof.Gen.Pre_finite_output_layer
public import proofs.«01_k».proof.Proof.Kernel
public import proofs.«01_k».proof.Proof.Reference
public import proofs.«01_k».proof.Proof.Softmax

@[expose] public section

set_option maxRecDepth 16384

noncomputable section

namespace Cert.Equation

open Idealize.ShloMosaic Idealize.ShloMosaic.TcCoe Cert.Pool

/-- An extended real whose absolute value compares below infinity is a real number. -/
theorem real_of_abs_lt (x : EReal)
    (h : BitVec.ofBool (decide (FloatOps.absf (F := Ideal) (φ := .f32) x < Ideal.ofBits .f32 0x7F800000#32)) = 1#1) :
    ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    rw [show decide (FloatOps.absf (F := Ideal) (φ := .f32) x < (⊤ : EReal)) = false from decide_eq_false hn] at h
    exact absurd h (by decide)
  obtain ⟨h1, h2⟩ := max_lt_iff.mp hlt
  have hb : x ≠ ⊥ := by
    rintro rfl
    simp at h2
  exact ⟨x.toReal, (EReal.coe_toReal h1.ne hb).symm⟩

/-- The precondition, read: the second layer's weights and offset are real numbers. -/
theorem finite_of_pre (m : (ℓ : Loc Cert.KernelIdeal.nD Cert.KernelIdeal.τ Cert.KernelIdeal.sig) → Buf (Elt Ideal) ℓ)
    (h : Cert.Pre_KernelIdeal_finite_output_layer m) (c : Dev Cert.KernelIdeal.nD) :
    (∀ k : Fin 64, ∃ r : ℝ, (m ((c.tc : Thread Cert.KernelIdeal.nD Cert.KernelIdeal.τ).loc Cert.KernelIdeal.main_arg4)
        : FVec Ideal Cert.KernelIdeal.S1x64 .f32) (ix2 0 k) = (r : EReal))
    ∧ ∃ r : ℝ, (m ((c.tc : Thread Cert.KernelIdeal.nD Cert.KernelIdeal.τ).loc Cert.KernelIdeal.main_arg5)
        : FVec Ideal Cert.KernelIdeal.S1 .f32) (ix1 0) = (r : EReal) := by
  obtain ⟨h1, h2⟩ := h c
  refine ⟨fun k => real_of_abs_lt _ ?_, real_of_abs_lt _ ?_⟩
  · have := congrFun h1 (ix2 0 k)
    unfold Cert.Pre_finite_output_layer.fn at this
    pointwise at this
    exact this
  · have := congrFun h2 (ix1 0)
    unfold Cert.Pre_finite_output_layer.fn at this
    pointwise at this
    exact this

/-- The reference's last stages on the kernel's arguments, at an index, are the kernel's result there: the sums over a
    graph's nodes are named alike, the scores are real, and shifting them by their maximum changes nothing. -/
theorem point (x : FVec Ideal Cert.ReferenceIdeal.S100000x128 .f32) (b : IVec Cert.ReferenceIdeal.S100000 32)
    (w1 : FVec Ideal Cert.ReferenceIdeal.S64x128 .f32) (b1 : FVec Ideal Cert.ReferenceIdeal.S64 .f32)
    (w2 : FVec Ideal Cert.ReferenceIdeal.S1x64 .f32) (b2 : FVec Ideal Cert.ReferenceIdeal.S1 .f32)
    (hw : ∀ k : Fin 64, ∃ r : ℝ, w2 (ix2 0 k) = (r : EReal)) (hb : ∃ r : ℝ, b2 (ix1 0) = (r : EReal))
    (A : Args) (hA : A = ⟨fun n d => x (ix2 n d), fun n => b (ix1 n), fun k d => w1 (ix2 k d), fun k => b1 (ix1 k),
      fun k => w2 (ix2 0 k)⟩) (g : Fin 64) (d : Fin 128) :
    Cert.ReferenceIdeal.Stages.pooled b (Cert.ReferenceIdeal.Stages.weighted x b
        (Cert.ReferenceIdeal.Stages.scores x w1 b1 w2 b2)) (ix2 g d)
      = Ideal.div (A.num g d) (if A.den g = 0 then 1 else A.den g) := by
  choose s hs using fun n : Fin 100000 => score_real (fun k d => w1 (ix2 k d)) (fun k => b1 (ix1 k)) (fun k => w2 (ix2 0 k))
    (fun d => x (ix2 n d)) hw
  obtain ⟨r, hr⟩ := hb
  have hS : ∀ n : Fin 100000, Cert.ReferenceIdeal.Stages.scores x w1 b1 w2 b2 (ix1 n) = (s n : EReal) + (r : EReal) := fun n => by
    rw [Cert.ReferenceIdeal.Stages.scores_apply, hs, hr]
  have hAs : ∀ n, A.s n = (s n : EReal) := fun n => by rw [hA]; exact hs n
  have hM := Cert.ReferenceIdeal.Stages.largest_apply b (Cert.ReferenceIdeal.Stages.scores x w1 b1 w2 b2) g
  rw [Cert.ReferenceIdeal.Stages.result_apply]
  simp only [hS] at hM ⊢
  rw [softmax_shift (fun n : Fin 100000 => (b (ix1 n)).toInt = (g.val : ℤ)) s r (fun n => x (ix2 n d)) _ hM]
  unfold Args.num Args.den Args.weight
  simp only [hAs]
  rw [hA]

/-- The two programs' results are equal, from memories that agree on the arguments and meet the precondition. -/
theorem result (m : (ℓ : Loc Cert.KernelIdeal.nD Cert.KernelIdeal.τ Cert.KernelIdeal.sig) → Buf (Elt Ideal) ℓ)
    (h : Cert.Pre_KernelIdeal_finite_output_layer m) (c : Dev Cert.KernelIdeal.nD) :
    Cert.ReferenceIdeal.Stages.pooled (m ((c.tc : Thread Cert.KernelIdeal.nD Cert.KernelIdeal.τ).loc Cert.KernelIdeal.main_arg1))
        (Cert.ReferenceIdeal.Stages.weighted (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (Cert.ReferenceIdeal.Stages.scores (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))))
      = Cert.KernelIdeal.Value.G5 (F := Ideal) m c := by
  obtain ⟨hw, hb⟩ := finite_of_pre m h c
  funext i
  idx_vars i
  exact (point _ _ _ _ _ _ hw hb (Cert.KernelIdeal.Blocks.args m c) rfl _ _).trans (Cert.KernelIdeal.Result.value m c _ _).symm

end Cert.Equation

end
-- ==== Proof.lean ====
/-
  The certificate's claims, assembled. The kernel runs by its generated frame and value legs, the reference by its
  generated run; the equality of their results is Proof/Equation.lean's.
-/
module

public import proofs.«01_k».proof.Defs
public import proofs.«01_k».proof.Proof.Gen.Kernel.Frame
public import proofs.«01_k».proof.Proof.Gen.KernelIdeal.Value
public import proofs.«01_k».proof.Proof.Gen.Pre_finite_output_layer
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs from any memory, leaves its arguments as they were, and ends with every counter zero: it has none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does from a memory meeting the precondition. -/
theorem quiescent_ReferenceIdeal_finite : quiescent_ReferenceIdeal_pre_finite_output_layer := fun m ρ _ =>
  quiescent_ReferenceIdeal m ρ trivial

/-- From memories that agree on the arguments, with the output layer's weights and bias finite, the kernel and the
    reference both run, and their results are equal. -/
theorem algebraic_finite : algebraic_KernelIdeal_ReferenceIdeal_pre_finite_output_layer := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5⟩ := hagree c
  rw [(h c).1, Cert.ReferenceIdeal.Stages.res_eq, a0, a1, a2, a3, a4, a5]
  exact Cert.Equation.result m hpre c

/-- Every claim of the certificate. -/
theorem claim : Cert.Claim :=
  ⟨Cert.Kernel.Gen.facts, Cert.KernelIdeal.Gen.facts, Cert.ReferenceIdeal.Gen.facts, Cert.Pre_finite_output_layer.Gen.facts,
    fun m ρ _ => Cert.Kernel.Gen.frame m ρ,
    fun m ρ _ => Cert.KernelIdeal.Gen.frame m ρ,
    fun m ρ _ => Cert.KernelIdeal.Gen.frame m ρ,
    quiescent_ReferenceIdeal, quiescent_ReferenceIdeal_finite,
    (trivial : preserves_Kernel_KernelIdeal), algebraic_finite⟩

end Cert.Proof

end
